-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scaling_real [hPre_scaling_real : Cert.Pre_scaling_real.Facts] (m : (ℓ : Loc Cert.KernelIdeal.nD Cert.KernelIdeal.τ Cert.KernelIdeal.sig) → Buf (Elt Ideal) ℓ) : Prop :=
  ∀ c : Dev Cert.KernelIdeal.nD,
    (Cert.Pre_scaling_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scaling_real [hPre_scaling_real : Cert.Pre_scaling_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scaling_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scaling_real [hKernelIdeal : Cert.KernelIdeal.Facts] [hPre_scaling_real : Cert.Pre_scaling_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scaling_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scaling_real [hReferenceIdeal : Cert.ReferenceIdeal.Facts] [hPre_scaling_real : Cert.Pre_scaling_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scaling_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scaling_real [hKernelIdeal : Cert.KernelIdeal.Facts] [hReferenceIdeal : Cert.ReferenceIdeal.Facts] [hPre_scaling_real : Cert.Pre_scaling_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scaling_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scaling_real : Cert.Pre_scaling_real.Facts),
    quiescent_Kernel (hKernel := hKernel)
    ∧ quiescent_KernelIdeal (hKernelIdeal := hKernelIdeal)
    ∧ quiescent_KernelIdeal_pre_scaling_real (hKernelIdeal := hKernelIdeal) (hPre_scaling_real := hPre_scaling_real)
    ∧ quiescent_ReferenceIdeal (hReferenceIdeal := hReferenceIdeal)
    ∧ quiescent_ReferenceIdeal_pre_scaling_real (hReferenceIdeal := hReferenceIdeal) (hPre_scaling_real := hPre_scaling_real)
    ∧ preserves_Kernel_KernelIdeal
    ∧ algebraic_KernelIdeal_ReferenceIdeal_pre_scaling_real (hKernelIdeal := hKernelIdeal) (hReferenceIdeal := hReferenceIdeal) (hPre_scaling_real := hPre_scaling_real)
-- ==== Pre_scaling_real.lean ====
abbrev S4096x2048 : Shape := ⟨2, ![4096, 2048]⟩
abbrev S8x64x2048 : Shape := ⟨3, ![8, 64, 2048]⟩
abbrev S8x2048x64 : Shape := ⟨3, ![8, 2048, 64]⟩
abbrev S8 : Shape := ⟨1, ![8]⟩
abbrev S4096 : Shape := ⟨1, ![4096]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S8x64x2048 : S_.BroadcastsInDim S8x64x2048 (![] : Fin 0 → Fin S8x64x2048.rank)
  reducesTo_S8x64x2048_S_d0_1_2 : S8x64x2048.ReducesTo [0, 1, 2] S_
  bcast_S_S8x2048x64 : S_.BroadcastsInDim S8x2048x64 (![] : Fin 0 → Fin S8x2048x64.rank)
  reducesTo_S8x2048x64_S_d0_1_2 : S8x2048x64.ReducesTo [0, 1, 2] S_

variable [Facts]

def fn_part1 {F : FTy → Type} [FloatOps F] (main_arg2 : FVec F S8x2048x64 .f32) (main_v3 : IVec S_ 1) (main_v6 : IVec S_ 1) (main_v15 : IVec S_ 1) : IVec S_ 1 :=
  let main_v16 : FVec F S8x2048x64 .f32 := Host.absf main_arg2
  let main_cst_6 : FVec F S_ .f32 := constant S_ .f32 0x7F800000#32
  let main_v17 : FVec F S8x2048x64 .f32 := broadcastInDim S8x2048x64 ![] bcast_S_S8x2048x64 main_cst_6
  let main_v18 : IVec S8x2048x64 1 := cmpf .olt main_v16 main_v17
  let main_c_7 : IVec S_ 1 := constantI S_ 1 1#1
  let main_v19 : IVec S_ 1 := (fun x v => Host.reduce IntOp.andi x v reducesTo_S8x2048x64_S_d0_1_2 h_S_) main_v18 main_c_7
  let main_v20 : IVec S_ 1 := andi main_v15 main_v19
  let main_v21 : IVec S_ 1 := ori main_v6 main_v20
  let main_v22 : IVec S_ 1 := andi main_v3 main_v21
  main_v22

def fn {F : FTy → Type} [FloatOps F] (main_arg0 : FVec F S4096x2048 .f32) (main_arg1 : FVec F S8x64x2048 .f32) (main_arg2 : FVec F S8x2048x64 .f32) (main_arg3 : FVec F S8 .f32) (main_arg4 : IVec S8 32) (main_arg5 : IVec S4096 32) : IVec S_ 1 :=
  let main_v0 : FVec F S8 .f32 := Host.absf main_arg3
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_cst_0 : FVec F S_ .f32 := constant S_ .f32 0x00000000#32
  let main_v4 : FVec F S8 .f32 := broadcastInDim S8 ![] bcast_S_S8 main_cst_0
  let main_v5 : IVec S8 1 := cmpf .oge main_arg3 main_v4
  let main_c_1 : IVec S_ 1 := constantI S_ 1 1#1
  let main_v6 : IVec S_ 1 := (fun x v => Host.reduce IntOp.andi x v reducesTo_S8_S_d0 h_S_) main_v5 main_c_1
  let main_v7 : FVec F S4096x2048 .f32 := Host.absf main_arg0
  let main_cst_2 : FVec F S_ .f32 := constant S_ .f32 0x7F800000#32
  let main_v8 : FVec F S4096x2048 .f32 := broadcastInDim S4096x2048 ![] bcast_S_S4096x2048 main_cst_2
  let main_v9 : IVec S4096x2048 1 := cmpf .olt main_v7 main_v8
  let main_c_3 : IVec S_ 1 := constantI S_ 1 1#1
  let main_v10 : IVec S_ 1 := (fun x v => Host.reduce IntOp.andi x v reducesTo_S4096x2048_S_d0_1 h_S_) main_v9 main_c_3
  let main_v11 : FVec F S8x64x2048 .f32 := Host.absf main_arg1
  let main_cst_4 : FVec F S_ .f32 := constant S_ .f32 0x7F800000#32
  let main_v12 : FVec F S8x64x2048 .f32 := broadcastInDim S8x64x2048 ![] bcast_S_S8x64x2048 main_cst_4
  let main_v13 : IVec S8x64x2048 1 := cmpf .olt main_v11 main_v12
  let main_c_5 : IVec S_ 1 := constantI S_ 1 1#1
  let main_v14 : IVec S_ 1 := (fun x v => Host.reduce IntOp.andi x v reducesTo_S8x64x2048_S_d0_1_2 h_S_) main_v13 main_c_5
  let main_v15 : IVec S_ 1 := andi main_v10 main_v14
  fn_part1 (F := F) main_arg2 main_v3 main_v6 main_v15
-- ==== Kernel.lean ====
abbrev S4096x2048 : Shape := ⟨2, ![4096, 2048]⟩
abbrev S8x64x2048 : Shape := ⟨3, ![8, 64, 2048]⟩
abbrev S8x2048x64 : Shape := ⟨3, ![8, 2048, 64]⟩
abbrev S8 : Shape := ⟨1, ![8]⟩
abbrev S4096 : Shape := ⟨1, ![4096]⟩
abbrev S4x1x1024 : Shape := ⟨3, ![4, 1, 1024]⟩
abbrev S512x2048 : Shape := ⟨2, ![512, 2048]⟩
abbrev S2048x8x64 : Shape := ⟨3, ![2048, 8, 64]⟩
abbrev S2048x512 : Shape := ⟨2, ![2048, 512]⟩
abbrev S8x64 : Shape := ⟨2, ![8, 64]⟩
abbrev S512 : Shape := ⟨1, ![512]⟩
abbrev S1x512 : Shape := ⟨2, ![1, 512]⟩
abbrev S1x1x1024 : Shape := ⟨3, ![1, 1, 1024]⟩
abbrev S1024x2048 : Shape := ⟨2, ![1024, 2048]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 17
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S8x64x2048, .f32⟩
  | .hbm, ⟨2, _⟩ => ⟨S8x2048x64, .f32⟩
  | .hbm, ⟨3, _⟩ => ⟨S8, .f32⟩
  | .hbm, ⟨4, _⟩ => ⟨S8, .i32⟩
  | .hbm, ⟨5, _⟩ => ⟨S4096, .i32⟩
  | .hbm, ⟨6, _⟩ => ⟨S4x1x1024, .i32⟩
  | .hbm, ⟨7, _⟩ => ⟨S512x2048, .f32⟩
  | .hbm, ⟨8, _⟩ => ⟨S2048x8x64, .f32⟩
  | .hbm, ⟨9, _⟩ => ⟨S2048x512, .f32⟩
  | .hbm, ⟨10, _⟩ => ⟨S8x64, .i32⟩
  | .hbm, ⟨11, _⟩ => ⟨S512, .i32⟩
  | .hbm, ⟨12, _⟩ => ⟨S1x512, .i32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S4096x2048, .f32⟩
  | .local _ .vmem, ⟨0, _⟩ => ⟨S1x1x1024, .i32⟩
  | .local _ .vmem, ⟨1, _⟩ => ⟨S1x1x1024, .i32⟩
  | .local _ .vmem, ⟨2, _⟩ => ⟨S1x512, .i32⟩
  | .local _ .vmem, ⟨3, _⟩ => ⟨S1x512, .f32⟩
  | .local _ .vmem, ⟨4, _⟩ => ⟨S1024x2048, .f32⟩
  | .local _ .vmem, ⟨5, _⟩ => ⟨S1024x2048, .f32⟩
  | .local _ .vmem, ⟨6, _⟩ => ⟨S512x2048, .f32⟩
  | .local _ .vmem, ⟨7, _⟩ => ⟨S2048x512, .f32⟩
  | .local _ .vmem, ⟨8, _⟩ => ⟨S1024x1024, .f32⟩
  | .local _ .vmem, ⟨9, _⟩ => ⟨S1024x1024, .f32⟩
  | .local _ .vmem, ⟨10, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 2], ![false, false]⟩

def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : Index := Scalar.indexCast v3
  let c0 : Index := 0#32
  ![v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4096x2048 : Shape := ⟨2, ![4096, 2048]⟩
abbrev S8x64x2048 : Shape := ⟨3, ![8, 64, 2048]⟩
abbrev S8x2048x64 : Shape := ⟨3, ![8, 2048, 64]⟩
abbrev S8 : Shape := ⟨1, ![8]⟩
abbrev S4096 : Shape := ⟨1, ![4096]⟩
abbrev S64 : Shape := ⟨1, ![64]⟩
abbrev S_ : Shape := ⟨0, ![]⟩
abbrev S4096x1 : Shape := ⟨2, ![4096, 1]⟩
abbrev S1 : Shape := ⟨1, ![1]⟩
abbrev S64x1 : Shape := ⟨2, ![64, 1]⟩
abbrev S1x64x2048 : Shape := ⟨3, ![1, 64, 2048]⟩
abbrev S64x2048 : Shape := ⟨2, ![64, 2048]⟩
abbrev S2048x64 : Shape := ⟨2, ![2048, 64]⟩
abbrev S4096x64 : Shape := ⟨2, ![4096, 64]⟩
abbrev S1x2048x64 : Shape := ⟨3, ![1, 2048, 64]⟩

abbrev nBuf : Space → Nat
  | .hbm => 233
  | .vmem => 0
  | .smem => 0
  | _ => 0

abbrev hbmTy0_0 (i : Nat) : BufTy := match i % 128 with
  | 0 => ⟨S4096x2048, .f32⟩
  | 1 => ⟨S8x64x2048, .f32⟩
  | 2 => ⟨S8x2048x64, .f32⟩
  | 3 => ⟨S8, .f32⟩
  | 4 => ⟨S8, .i32⟩
  | 5 => ⟨S4096, .i32⟩
  | 6 => ⟨S64, .i32⟩
  | 7 => ⟨S_, .f32⟩
  | 8 => ⟨S4096x2048, .f32⟩
  | 9 => ⟨S_, .i32⟩
  | 10 => ⟨S4096, .i32⟩
  | 11 => ⟨S4096, .i1⟩
  | 12 => ⟨S4096, .f32⟩
  | 13 => ⟨S4096x1, .f32⟩
  | 14 => ⟨S4096x2048, .f32⟩
  | 15 => ⟨S4096x2048, .f32⟩
  | 16 => ⟨S1, .i32⟩
  | 17 => ⟨S_, .i32⟩
  | 18 => ⟨S64, .i32⟩
  | 19 => ⟨S64, .i1⟩
  | 20 => ⟨S64, .f32⟩
  | 21 => ⟨S64x1, .f32⟩
  | 22 => ⟨S1x64x2048, .f32⟩
  | 23 => ⟨S64x2048, .f32⟩
  | 24 => ⟨S64x2048, .f32⟩
  | 25 => ⟨S64x2048, .f32⟩
  | 26 => ⟨S2048x64, .f32⟩
  | 27 => ⟨S4096x64, .f32⟩
  | 28 => ⟨S1x2048x64, .f32⟩
  | 29 => ⟨S2048x64, .f32⟩
  | 30 => ⟨S64x2048, .f32⟩
  | 31 => ⟨S4096x2048, .f32⟩
  | 32 => ⟨S1, .f32⟩
  | 33 => ⟨S_, .f32⟩
  | 34 => ⟨S4096x2048, .f32⟩
  | 35 => ⟨S4096x2048, .f32⟩
  | 36 => ⟨S4096x2048, .f32⟩
  | 37 => ⟨S_, .i32⟩
  | 38 => ⟨S4096, .i32⟩
  | 39 => ⟨S4096, .i1⟩
  | 40 => ⟨S4096, .f32⟩
  | 41 => ⟨S4096x1, .f32⟩
  | 42 => ⟨S4096x2048, .f32⟩
  | 43 => ⟨S4096x2048, .f32⟩
  | 44 => ⟨S1, .i32⟩
  | 45 => ⟨S_, .i32⟩
  | 46 => ⟨S64, .i32⟩
  | 47 => ⟨S64, .i1⟩
  | 48 => ⟨S64, .f32⟩
  | 49 => ⟨S64x1, .f32⟩
  | 50 => ⟨S1x64x2048, .f32⟩
  | 51 => ⟨S64x2048, .f32⟩
  | 52 => ⟨S64x2048, .f32⟩
  | 53 => ⟨S64x2048, .f32⟩
  | 54 => ⟨S2048x64, .f32⟩
  | 55 => ⟨S4096x64, .f32⟩
  | 56 => ⟨S1x2048x64, .f32⟩
  | 57 => ⟨S2048x64, .f32⟩
  | 58 => ⟨S64x2048, .f32⟩
  | 59 => ⟨S4096x2048, .f32⟩
  | 60 => ⟨S1, .f32⟩
  | 61 => ⟨S_, .f32⟩
  | 62 => ⟨S4096x2048, .f32⟩
  | 63 => ⟨S4096x2048, .f32⟩
  | 64 => ⟨S4096x2048, .f32⟩
  | 65 => ⟨S_, .i32⟩
  | 66 => ⟨S4096, .i32⟩
  | 67 => ⟨S4096, .i1⟩
  | 68 => ⟨S4096, .f32⟩
  | 69 => ⟨S4096x1, .f32⟩
  | 70 => ⟨S4096x2048, .f32⟩
  | 71 => ⟨S4096x2048, .f32⟩
  | 72 => ⟨S1, .i32⟩
  | 73 => ⟨S_, .i32⟩
  | 74 => ⟨S64, .i32⟩
  | 75 => ⟨S64, .i1⟩
  | 76 => ⟨S64, .f32⟩
  | 77 => ⟨S64x1, .f32⟩
  | 78 => ⟨S1x64x2048, .f32⟩
  | 79 => ⟨S64x2048, .f32⟩
  | 80 => ⟨S64x2048, .f32⟩
  | 81 => ⟨S64x2048, .f32⟩
  | 82 => ⟨S2048x64, .f32⟩
  | 83 => ⟨S4096x64, .f32⟩
  | 84 => ⟨S1x2048x64, .f32⟩
  | 85 => ⟨S2048x64, .f32⟩
  | 86 => ⟨S64x2048, .f32⟩
  | 87 => ⟨S4096x2048, .f32⟩
  | 88 => ⟨S1, .f32⟩
  | 89 => ⟨S_, .f32⟩
  | 90 => ⟨S4096x2048, .f32⟩
  | 91 => ⟨S4096x2048, .f32⟩
  | 92 => ⟨S4096x2048, .f32⟩
  | 93 => ⟨S_, .i32⟩
  | 94 => ⟨S4096, .i32⟩
  | 95 => ⟨S4096, .i1⟩
  | 96 => ⟨S4096, .f32⟩
  | 97 => ⟨S4096x1, .f32⟩
  | 98 => ⟨S4096x2048, .f32⟩
  | 99 => ⟨S4096x2048, .f32⟩
  | 100 => ⟨S1, .i32⟩
  | 101 => ⟨S_, .i32⟩
  | 102 => ⟨S64, .i32⟩
  | 103 => ⟨S64, .i1⟩
  | 104 => ⟨S64, .f32⟩
  | 105 => ⟨S64x1, .f32⟩
  | 106 => ⟨S1x64x2048, .f32⟩
  | 107 => ⟨S64x2048, .f32⟩
  | 108 => ⟨S64x2048, .f32⟩
  | 109 => ⟨S64x2048, .f32⟩
  | 110 => ⟨S2048x64, .f32⟩
  | 111 => ⟨S4096x64, .f32⟩
  | 112 => ⟨S1x2048x64, .f32⟩
  | 113 => ⟨S2048x64, .f32⟩
  | 114 => ⟨S64x2048, .f32⟩
  | 115 => ⟨S4096x2048, .f32⟩
  | 116 => ⟨S1, .f32⟩
  | 117 => ⟨S_, .f32⟩
  | 118 => ⟨S4096x2048, .f32⟩
  | 119 => ⟨S4096x2048, .f32⟩
  | 120 => ⟨S4096x2048, .f32⟩
  | 121 => ⟨S_, .i32⟩
  | 122 => ⟨S4096, .i32⟩
  | 123 => ⟨S4096, .i1⟩
  | 124 => ⟨S4096, .f32⟩
  | 125 => ⟨S4096x1, .f32⟩
  | 126 => ⟨S4096x2048, .f32⟩
  | 127 => ⟨S4096x2048, .f32⟩
  | _ => ⟨S4096x2048, .f32⟩

abbrev hbmTy0_1 (i : Nat) : BufTy := match i % 128 with
  | 0 => ⟨S1, .i32⟩
  | 1 => ⟨S_, .i32⟩
  | 2 => ⟨S64, .i32⟩
  | 3 => ⟨S64, .i1⟩
  | 4 => ⟨S64, .f32⟩
  | 5 => ⟨S64x1, .f32⟩
  | 6 => ⟨S1x64x2048, .f32⟩
  | 7 => ⟨S64x2048, .f32⟩
  | 8 => ⟨S64x2048, .f32⟩
  | 9 => ⟨S64x2048, .f32⟩
  | 10 => ⟨S2048x64, .f32⟩
  | 11 => ⟨S4096x64, .f32⟩
  | 12 => ⟨S1x2048x64, .f32⟩
  | 13 => ⟨S2048x64, .f32⟩
  | 14 => ⟨S64x2048, .f32⟩
  | 15 => ⟨S4096x2048, .f32⟩
  | 16 => ⟨S1, .f32⟩
  | 17 => ⟨S_, .f32⟩
  | 18 => ⟨S4096x2048, .f32⟩
  | 19 => ⟨S4096x2048, .f32⟩
  | 20 => ⟨S4096x2048, .f32⟩
  | 21 => ⟨S_, .i32⟩
  | 22 => ⟨S4096, .i32⟩
  | 23 => ⟨S4096, .i1⟩
  | 24 => ⟨S4096, .f32⟩
  | 25 => ⟨S4096x1, .f32⟩
  | 26 => ⟨S4096x2048, .f32⟩
  | 27 => ⟨S4096x2048, .f32⟩
  | 28 => ⟨S1, .i32⟩
  | 29 => ⟨S_, .i32⟩
  | 30 => ⟨S64, .i32⟩
  | 31 => ⟨S64, .i1⟩
  | 32 => ⟨S64, .f32⟩
  | 33 => ⟨S64x1, .f32⟩
  | 34 => ⟨S1x64x2048, .f32⟩
  | 35 => ⟨S64x2048, .f32⟩
  | 36 => ⟨S64x2048, .f32⟩
  | 37 => ⟨S64x2048, .f32⟩
  | 38 => ⟨S2048x64, .f32⟩
  | 39 => ⟨S4096x64, .f32⟩
  | 40 => ⟨S1x2048x64, .f32⟩
  | 41 => ⟨S2048x64, .f32⟩
  | 42 => ⟨S64x2048, .f32⟩
  | 43 => ⟨S4096x2048, .f32⟩
  | 44 => ⟨S1, .f32⟩
  | 45 => ⟨S_, .f32⟩
  | 46 => ⟨S4096x2048, .f32⟩
  | 47 => ⟨S4096x2048, .f32⟩
  | 48 => ⟨S4096x2048, .f32⟩
  | 49 => ⟨S_, .i32⟩
  | 50 => ⟨S4096, .i32⟩
  | 51 => ⟨S4096, .i1⟩
  | 52 => ⟨S4096, .f32⟩
  | 53 => ⟨S4096x1, .f32⟩
  | 54 => ⟨S4096x2048, .f32⟩
  | 55 => ⟨S4096x2048, .f32⟩
  | 56 => ⟨S1, .i32⟩
  | 57 => ⟨S_, .i32⟩
  | 58 => ⟨S64, .i32⟩
  | 59 => ⟨S64, .i1⟩
  | 60 => ⟨S64, .f32⟩
  | 61 => ⟨S64x1, .f32⟩
  | 62 => ⟨S1x64x2048, .f32⟩
  | 63 => ⟨S64x2048, .f32⟩
  | 64 => ⟨S64x2048, .f32⟩
  | 65 => ⟨S64x2048, .f32⟩
  | 66 => ⟨S2048x64, .f32⟩
  | 67 => ⟨S4096x64, .f32⟩
  | 68 => ⟨S1x2048x64, .f32⟩
  | 69 => ⟨S2048x64, .f32⟩
  | 70 => ⟨S64x2048, .f32⟩
  | 71 => ⟨S4096x2048, .f32⟩
  | 72 => ⟨S1, .f32⟩
  | 73 => ⟨S_, .f32⟩
  | 74 => ⟨S4096x2048, .f32⟩
  | 75 => ⟨S4096x2048, .f32⟩
  | 76 => ⟨S4096x2048, .f32⟩
  | 77 => ⟨S_, .i32⟩
  | 78 => ⟨S4096, .i32⟩
  | 79 => ⟨S4096, .i1⟩
  | 80 => ⟨S4096, .f32⟩
  | 81 => ⟨S4096x1, .f32⟩
  | 82 => ⟨S4096x2048, .f32⟩
  | 83 => ⟨S4096x2048, .f32⟩
  | 84 => ⟨S1, .i32⟩
  | 85 => ⟨S_, .i32⟩
  | 86 => ⟨S64, .i32⟩
  | 87 => ⟨S64, .i1⟩
  | 88 => ⟨S64, .f32⟩
  | 89 => ⟨S64x1, .f32⟩
  | 90 => ⟨S1x64x2048, .f32⟩
  | 91 => ⟨S64x2048, .f32⟩
  | 92 => ⟨S64x2048, .f32⟩
  | 93 => ⟨S64x2048, .f32⟩
  | 94 => ⟨S2048x64, .f32⟩
  | 95 => ⟨S4096x64, .f32⟩
  | 96 => ⟨S1x2048x64, .f32⟩
  | 97 => ⟨S2048x64, .f32⟩
  | 98 => ⟨S64x2048, .f32⟩
  | 99 => ⟨S4096x2048, .f32⟩
  | 100 => ⟨S1, .f32⟩
  | 101 => ⟨S_, .f32⟩
  | 102 => ⟨S4096x2048, .f32⟩
  | 103 => ⟨S4096x2048, .f32⟩
  | 104 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_c_1 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_c_2 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_c_3 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_c_4 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_c_5 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_c_6 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩

abbrev nD : Nat := 1
abbrev τ : Topo := Topo.v7x

variable {F : FTy → Type} [FloatOps F]
-- ==== Proof.RowSum.lean ====
/-
  One entry of the result, as arithmetic on extended reals, with no program in sight.

  Fix a token row and an output feature. The row's input is `x`, the word naming its slot is `w`, slot `s` has the
  down-projection `A s r i`, the up-projection's entries `B s r` at the fixed feature, the scaling `c s` and the effective
  rank `e s`. The reference adds, slot by slot, `c s` times a sum over the rank; the kernel masks and scales a flat row of
  `8 * 64` hidden values and takes one inner product of length 512. This module states both sums (`slotSum`, `flatSum`)
  and proves them equal (`flatSum_eq`) when every scaling is a real number and either no scaling is negative or the other
  numbers are real too.
-/
module

public import Idealize.ShloMosaic.Lib.Pointwise
public import Idealize.ShloMosaic.Lib.Pipeline.ValueKit
public import Idealize.ShloMosaic.Lib.WordCmp

@[expose] public section

set_option maxRecDepth 16384

noncomputable section

namespace Cert.RowSum

open Idealize.ShloMosaic

/-! ## Real numbers among the extended reals -/

/-- `a` is a real number: neither infinity. -/
def IsReal (a : EReal) : Prop := a ≠ ⊥ ∧ a ≠ ⊤

/-- A real number is the image of one. -/
theorem IsReal.exists_coe {a : EReal} (h : IsReal a) : ∃ r : ℝ, a = (r : EReal) :=
  ⟨a.toReal, (EReal.coe_toReal h.2 h.1).symm⟩

/-- The image of a real number is a real number. -/
theorem isReal_coe (r : ℝ) : IsReal (r : EReal) := ⟨EReal.coe_ne_bot r, EReal.coe_ne_top r⟩

/-- Zero is a real number. -/
theorem isReal_zero : IsReal 0 := isReal_coe 0

/-- The sum of two real numbers is one. -/
theorem IsReal.add {a b : EReal} (ha : IsReal a) (hb : IsReal b) : IsReal (a + b) := by
  obtain ⟨r, rfl⟩ := ha.exists_coe
  obtain ⟨q, rfl⟩ := hb.exists_coe
  exact EReal.coe_add r q ▸ isReal_coe (r + q)

/-- The product of two real numbers is one. -/
theorem IsReal.mul {a b : EReal} (ha : IsReal a) (hb : IsReal b) : IsReal (a * b) := by
  obtain ⟨r, rfl⟩ := ha.exists_coe
  obtain ⟨q, rfl⟩ := hb.exists_coe
  exact EReal.coe_mul r q ▸ isReal_coe (r * q)

/-- A finite sum of real numbers is one. -/
theorem isReal_sum {ι : Type} (t : Finset ι) (f : ι → EReal) (h : ∀ i, IsReal (f i)) : IsReal (∑ i ∈ t, f i) :=
  Finset.sum_induction f IsReal (fun _ _ => IsReal.add) isReal_zero fun i _ => h i

/-- A number whose absolute value lies below `⊤` is real. -/
theorem isReal_of_abs_lt_top {a : EReal} (h : max a (-a) < ⊤) : IsReal a := by
  obtain ⟨h1, h2⟩ := max_lt_iff.mp h
  exact ⟨fun hb => by simp [hb] at h2, h1.ne⟩

/-! ## A scaling moved into a sum -/

/-- A real scaling `c` may be moved inside a sum when it is not negative, or when every term is real. -/
theorem mul_sum_of {ι : Type} (t : Finset ι) (c : EReal) (f : ι → EReal) (hc : IsReal c)
    (h : 0 ≤ c ∨ ∀ i, IsReal (f i)) : c * ∑ i ∈ t, f i = ∑ i ∈ t, c * f i := by
  classical
  induction t using Finset.induction_on with
  | empty => simp
  | insert a t ha ih =>
    rw [Finset.sum_insert ha, Finset.sum_insert ha, ← ih]
    rcases h with h | h
    · exact EReal.left_distrib_of_nonneg_of_ne_top h hc.2 _ _
    · obtain ⟨r, rfl⟩ := hc.exists_coe
      obtain ⟨p, hp⟩ := (h a).exists_coe
      obtain ⟨q, hq⟩ := (isReal_sum t f h).exists_coe
      rw [hp, hq]
      norm_cast
      exact mul_add r p q

/-! ## The one-bit masks -/

/-- The mask bit 1 as a float is the number one. -/
theorem mask_one : FloatOps.uitofp (F := Ideal) .f32 (1#1) = (1 : EReal) := by
  show (((1#1 : BitVec 1).toNat : ℝ) : EReal) = 1
  norm_num

/-- The mask bit 0 as a float is the number zero. -/
theorem mask_zero : FloatOps.uitofp (F := Ideal) .f32 (0#1) = (0 : EReal) := by
  show (((0#1 : BitVec 1).toNat : ℝ) : EReal) = 0
  norm_num

/-- A bit is 0 or 1. -/
theorem bit_cases (b : BitVec 1) : b = 0#1 ∨ b = 1#1 := BitVec.eq_zero_or_eq_one b

/-! ## The two sums -/

/-- The data one entry of the result depends on: the token's row `x`, its slot word `w`, the down-projections `A`, the
    up-projections `B` at the entry's feature, the scalings `c` and the effective ranks `e`. -/
structure Entry where
  x : Fin 2048 → EReal
  w : BitVec 32
  A : Fin 8 → Fin 64 → Fin 2048 → EReal
  B : Fin 8 → Fin 64 → EReal
  c : Fin 8 → EReal
  e : Fin 8 → BitVec 32

/-- The entry at token `t` and feature `d` of the six argument arrays: rows, down-projections, up-projections, scalings,
    effective ranks, slot words. -/
def Entry.at (x : (⟨2, ![4096, 2048]⟩ : Shape).Idx → EReal) (A : (⟨3, ![8, 64, 2048]⟩ : Shape).Idx → EReal)
    (B : (⟨3, ![8, 2048, 64]⟩ : Shape).Idx → EReal) (c : (⟨1, ![8]⟩ : Shape).Idx → EReal)
    (e : (⟨1, ![8]⟩ : Shape).Idx → BitVec 32) (w : (⟨1, ![4096]⟩ : Shape).Idx → BitVec 32) (t : Fin 4096) (d : Fin 2048) : Entry where
  x i := x (ix2 t i)
  w := w (ix1 t)
  A s r i := A (ix3 s r i)
  B s r := B (ix3 s d r)
  c s := c (ix1 s)
  e s := e (ix1 s)

/-- The bit saying that the row is routed to slot `s`. -/
def Entry.routed (E : Entry) (s : Fin 8) : BitVec 1 := IntOp.cmpi .eq E.w (BitVec.ofNat 32 s.val)

/-- The bit saying that rank `r` of slot `s` is below the slot's effective rank. -/
def Entry.ranked (E : Entry) (s : Fin 8) (r : Fin 64) : BitVec 1 := IntOp.cmpi .slt (BitVec.ofNat 32 r.val) (E.e s)

/-- What the reference adds for slot `s`: the scaling times the masked row sent down and up. -/
def Entry.slot (E : Entry) (s : Fin 8) : EReal :=
  E.c s * ∑ r : Fin 64, (∑ i : Fin 2048, (E.x i * FloatOps.uitofp (F := Ideal) .f32 (E.routed s))
    * (E.A s r i * FloatOps.uitofp (F := Ideal) .f32 (E.ranked s r))) * E.B s r

/-- The reference's entry: the eight slots added up. -/
def Entry.slotSum (E : Entry) : EReal := ∑ s : Fin 8, E.slot s

/-- The kernel's hidden value for rank `r` of slot `s`: the row sent down and scaled where both masks hold, else zero. -/
def Entry.hidden (E : Entry) (s : Fin 8) (r : Fin 64) : EReal :=
  Scalar.select (IntOp.andi (E.routed s) (E.ranked s r)) ((∑ i : Fin 2048, E.x i * E.A s r i) * E.c s) 0

/-- The slot of flat column `k`. -/
abbrev slotOf (k : Fin 512) : Fin 8 := ⟨k.val / 64, by omega⟩

/-- The rank of flat column `k` within its slot. -/
abbrev rankOf (k : Fin 512) : Fin 64 := ⟨k.val % 64, by omega⟩

/-- The kernel's entry: one inner product over the 512 flat columns. -/
def Entry.flatSum (E : Entry) : EReal := ∑ k : Fin 512, E.hidden (slotOf k) (rankOf k) * E.B (slotOf k) (rankOf k)

/-- The scalings are real numbers, and either none is negative or every other number is real too. -/
def Entry.Scaled (E : Entry) : Prop :=
  (∀ s, IsReal (E.c s)) ∧ ((∀ s, 0 ≤ E.c s) ∨ ((∀ i, IsReal (E.x i)) ∧ (∀ s r i, IsReal (E.A s r i)) ∧ ∀ s r, IsReal (E.B s r)))

/-- A row sent down through a slot whose two masks are `b` and `b'` is the unmasked sum where both bits are set, else
    zero. -/
theorem masked_down (b b' : BitVec 1) (x a : Fin 2048 → EReal) :
    (∑ i : Fin 2048, (x i * FloatOps.uitofp (F := Ideal) .f32 b) * (a i * FloatOps.uitofp (F := Ideal) .f32 b'))
      = Scalar.select (IntOp.andi b b') (∑ i : Fin 2048, x i * a i) 0 := by
  rcases bit_cases b with rfl | rfl <;> rcases bit_cases b' with rfl | rfl <;>
    simp [mask_one, mask_zero, Scalar.select, IntOp.andi]

/-- Scaling a selected value is selecting the scaled value. -/
theorem select_mul (b : BitVec 1) (h c : EReal) : Scalar.select b (h * c) 0 = c * Scalar.select b h 0 := by
  rcases bit_cases b with rfl | rfl <;> simp [Scalar.select, mul_comm]

/-- A selected real number is real. -/
theorem isReal_select (b : BitVec 1) {h : EReal} (hh : IsReal h) : IsReal (Scalar.select b h 0) := by
  rcases bit_cases b with rfl | rfl
  · simpa [Scalar.select] using isReal_zero
  · simpa [Scalar.select] using hh

/-- One slot: what the reference adds for slot `s` is the kernel's inner product over that slot's ranks. -/
theorem Entry.slot_eq (E : Entry) (hE : E.Scaled) (s : Fin 8) :
    E.slot s = ∑ r : Fin 64, E.hidden s r * E.B s r := by
  obtain ⟨hc, hsign⟩ := hE
  have hterm : ∀ r, (∑ i : Fin 2048, (E.x i * FloatOps.uitofp (F := Ideal) .f32 (E.routed s))
      * (E.A s r i * FloatOps.uitofp (F := Ideal) .f32 (E.ranked s r)))
      = Scalar.select (IntOp.andi (E.routed s) (E.ranked s r)) (∑ i : Fin 2048, E.x i * E.A s r i) 0 :=
    fun r => masked_down _ _ _ _
  unfold Entry.slot
  simp only [hterm]
  rw [mul_sum_of _ _ _ (hc s)]
  · refine Finset.sum_congr rfl fun r _ => ?_
    unfold Entry.hidden
    rw [select_mul, mul_assoc]
  · rcases hsign with h | ⟨hx, hA, hB⟩
    · exact .inl (h s)
    · exact .inr fun r => (isReal_select _ (isReal_sum _ _ fun i => (hx i).mul (hA s r i))).mul (hB s r)

/-- A sum over the 512 flat columns is the sum over slots of the sums over ranks. -/
theorem flat_sum (f : Fin 8 → Fin 64 → EReal) :
    (∑ k : Fin 512, f (slotOf k) (rankOf k)) = ∑ s : Fin 8, ∑ r : Fin 64, f s r := by
  rw [← Fintype.sum_prod_type']
  exact Fintype.sum_equiv (finProdFinEquiv (m := 8) (n := 64)).symm _ _ fun k => rfl

/-- The kernel's entry is the reference's. -/
theorem Entry.flatSum_eq (E : Entry) (hE : E.Scaled) : E.flatSum = E.slotSum := by
  unfold Entry.flatSum Entry.slotSum
  simp only [E.slot_eq hE]
  exact flat_sum fun s r => E.hidden s r * E.B s r

end Cert.RowSum

end
-- ==== Proof.Kernel.lean ====
/-
  The kernel's result, read at an index. The grid has eight points `2 * i + j`: at `j = 0` the body fills the scratch with the
  masked and scaled hidden values of row block `i`; at both points it multiplies the scratch by the up-projection's row block
  `j` and writes block `(i, j)` of the result. So entry `(t, d)` of the result is `RowSum.Entry.flatSum`.
-/
module

public import proofs.«01_k».proof.Proof.RowSum
public import proofs.«01_k».proof.Proof.Gen.KernelIdeal.Value
public import Idealize.ShloMosaic.Lib.Pipeline.ReadBack

@[expose] public section

set_option maxRecDepth 16384

noncomputable section

namespace Cert.KernelIdeal.Value

open Cert.KernelIdeal Cert.KernelIdeal.Gen Cert.RowSum
open Idealize.ShloMosaic Idealize.ShloMosaic.TcCoe Idealize.SL.Sem

/-! ## The column words -/

/-- Column `k`'s number shifted right by six is its slot's number. -/
theorem shift_col : ∀ k : Fin 512, IntOp.shrui ArithUnit.vector (BitVec.ofNat 32 k.val) 6#32 = BitVec.ofNat 32 (slotOf k).val := by
  decide +kernel

/-- Column `k`'s number masked by 63 is its rank within the slot. -/
theorem mask_col : ∀ k : Fin 512, IntOp.andi (BitVec.ofNat 32 k.val) 63#32 = BitVec.ofNat 32 (rankOf k).val := by
  decide +kernel

/-- An equality bit does not depend on the order of its two words. -/
theorem eq_comm_bit (a b : BitVec 32) : IntOp.cmpi .eq a b = IntOp.cmpi .eq b a := by
  simp only [IntOp.cmpi, BEq.comm (a := a)]

/-! ## The body's two stages at an index -/

/-- The first stage at row `r` and column `k`: the row sent down, scaled, kept where the row's slot word is the column's
    slot and the column's rank is below the effective rank. -/
theorem down_apply (x : Vec Ideal S1024x2048 .f32) (a : Vec Ideal S512x2048 .f32) (w : Vec Ideal S1x1x1024 .i32)
    (e : Vec Ideal S1x512 .i32) (s : Vec Ideal S1x512 .f32) (r : Fin 1024) (k : Fin 512) :
    k0_pay1 x a w e s (ix2 r k) = Scalar.select
      (IntOp.andi (IntOp.cmpi .eq (w (ix3 0 0 r)) (BitVec.ofNat 32 (slotOf k).val))
        (IntOp.cmpi .slt (BitVec.ofNat 32 (rankOf k).val) (e (ix2 0 k))))
      ((∑ i, x (ix2 r i) * a (ix2 k i)) * s (ix2 0 k)) 0 := by
  pointwise [k0_pay1]
  rw [shift_col, mask_col, eq_comm_bit]

/-- The second stage at row `r` and feature `d`: the inner product of a hidden row with an up-projection row. -/
theorem up_apply (b : Vec Ideal S1024x512 .f32) (h : Vec Ideal S1024x512 .bf16) (r d : Fin 1024) :
    k0_pay2 b h (ix2 r d) = ∑ k : Fin 512, h (ix2 r k) * b (ix2 d k) := by
  pointwise [k0_pay2]

variable (m : (ℓ : Loc nD τ sig) → Buf (Elt Ideal) ℓ)

/-- The entry at `(t, d)` of the arguments in the kernel's memory. -/
def entry (c : Dev nD) (t : Fin 4096) (d : Fin 2048) : Entry :=
  Entry.at (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) t d

/-- The result array: each entry one inner product over the flat columns. -/
def result (c : Dev nD) : S4096x2048.Idx → EReal := fun i => (entry m c (i 0) (i 1)).flatSum

/-! ## The input blocks at an index

At point `t` the tokens' windows are at row block `t / 2`, the other inputs' windows are whole arrays, and the output's is at
row block `t / 2` and column block `t % 2`. -/

/-- The printed index maps over the grid. -/
theorem win_idx : ∀ t : Fin cfg0.N,
    (win0_0.index t = ![t.val / 2, 0, 0] ∧ win0_3.index t = ![t.val / 2, 0] ∧ win0_6.index t = ![t.val / 2, t.val % 2])
    ∧ (win0_1.index t = ![0, 0] ∧ win0_2.index t = ![0, 0] ∧ win0_4.index t = ![0, 0] ∧ win0_5.index t = ![0, 0])
    ∧ k0_off1 (grid0.coords t) = ![t.val % 2 * 1024, 0] :=
  (by decide +kernel : ∀ t : Fin grid0.N, _)

section Blocks

variable (c : Dev nD) (t : Fin cfg0.N) (r : Fin 1024) (u : Fin 4096) (d : Fin 2048)

/-- The token rows' block: its row `r` is the row of token `t / 2 * 1024 + r`. -/
theorem x_blk (hu : u.val = t.val / 2 * 1024 + r.val) (i : Fin 2048) : iblk m c 3 t (ix2 r i) = (entry m c u d).x i := by
  simp only [entry, Entry.at]
  blk_ext! [iblk, V, win_idx t]

/-- The slot words' block: its word `r` is the word of token `t / 2 * 1024 + r`. -/
theorem w_blk (hu : u.val = t.val / 2 * 1024 + r.val) : iblk m c 0 t (ix3 0 0 r) = (entry m c u d).w := by
  simp only [entry, Entry.at]
  blk_ext! [iblk, V, win_idx t]

/-- The stacked down-projections: row `k` is rank `k % 64` of slot `k / 64`. -/
theorem a_blk (k : Fin 512) (i : Fin 2048) : iblk m c 4 t (ix2 k i) = (entry m c u d).A (slotOf k) (rankOf k) i := by
  simp only [entry, Entry.at]
  blk_ext! [iblk, V, win_idx t]

/-- The repeated effective ranks: column `k` has the rank of slot `k / 64`. -/
theorem e_blk (k : Fin 512) : iblk m c 1 t (ix2 0 k) = (entry m c u d).e (slotOf k) := by
  simp only [entry, Entry.at]
  blk_ext! [iblk, V, win_idx t]

/-- The repeated scalings: column `k` has the scaling of slot `k / 64`. -/
theorem c_blk (k : Fin 512) : iblk m c 2 t (ix2 0 k) = (entry m c u d).c (slotOf k) := by
  simp only [entry, Entry.at]
  blk_ext! [iblk, V, win_idx t]

/-- The side-by-side up-projections, read from the point's feature block on: row `f`, column `k` is the entry of feature
    `t % 2 * 1024 + f` at rank `k % 64` of slot `k / 64`. -/
theorem b_blk (k : Fin 512) (f : Fin 1024) (hd : d.val = t.val % 2 * 1024 + f.val) :
    View.ld (iblk m c 5 t) (Rect.unit (k0_off1 (grid0.coords t)) ![1024, 512] (k0_off1_inb (grid0.coords t))) (ix2 f k)
      = (entry m c u d).B (slotOf k) (rankOf k) := by
  simp only [entry, Entry.at]
  pointwise
  blk_ext! [iblk, V, win_idx t]

end Blocks

/-! ## What a point leaves -/

/-- The first stage's hidden values, over the blocks of point `t`. -/
theorem hidden_apply (c : Dev nD) (t : Fin cfg0.N) (r : Fin 1024) (k : Fin 512) (u : Fin 4096) (d : Fin 2048)
    (hu : u.val = t.val / 2 * 1024 + r.val) :
    k0_pay1 (iblk m c 3 t) (iblk m c 4 t) (iblk m c 0 t) (iblk m c 1 t) (iblk m c 2 t) (ix2 r k)
      = (entry m c u d).hidden (slotOf k) (rankOf k) := by
  rw [down_apply]
  simp only [x_blk m c t r u d hu, a_blk m c t u d, w_blk m c t r u d hu, e_blk m c t u d, c_blk m c t u d]
  rfl

/-- The scratch after an even point holds that point's hidden values. -/
theorem scratch_apply (c : Dev nD) (t : Fin cfg0.N) (h0 : t.val % 2 = 0) (r : Fin 1024) (k : Fin 512) (u : Fin 4096)
    (d : Fin 2048) (hu : u.val = t.val / 2 * 1024 + r.val) :
    (outsAt0 m c t.val t.isLt).2 (ix2 r k) = (entry m c u d).hidden (slotOf k) (rankOf k) := by
  rw [outsAt0_A m c t h0]
  frame_out
  exact hidden_apply m c t r k u d hu

/-- The output block after any point: the inner product over the flat columns. -/
theorem block_apply (c : Dev nD) (t : Fin cfg0.N) (r f : Fin 1024) (u : Fin 4096) (d : Fin 2048)
    (hu : u.val = t.val / 2 * 1024 + r.val) (hd : d.val = t.val % 2 * 1024 + f.val) :
    (outsAt0 m c t.val t.isLt).1 (ix2 r f) = (entry m c u d).flatSum := by
  unfold Entry.flatSum
  by_cases h0 : t.val % 2 = 0
  · rw [outsAt0_A m c t h0]
    frame_out
    rw [up_apply]
    refine Finset.sum_congr rfl fun k _ => congrArg₂ (· * ·) (hidden_apply m c t r k u d hu) (b_blk m c t u d k f hd)
  · rw [outsAt0_B m c t h0]
    frame_out
    rw [up_apply]
    refine Finset.sum_congr rfl fun k _ => congrArg₂ (· * ·) ?_ (b_blk m c t u d k f hd)
    refine (congrFun (read_unread_whole _ _ _) _).trans ?_
    exact scratch_apply m c ⟨t.val - 1, by omega⟩ (by dsimp only; omega) r k u d (by dsimp only; omega)

/-! ## The result array -/

/-- After the run the result array is `result`: the eight blocks tile it. -/
theorem final_result (c : Dev nD) : (dats m 0 c).arrAt 6 cfg0.N = result m c := by
  refine (dats m 0 c).arrAt_eq_of_covers 6 _ (by decide +kernel) fun t hf y => ?_
  change S1024x1024.Idx at y
  blk_simp
  rw [after0_6, eq_ix2 y]
  refine block_apply m c t (y 0) (y 1) _ _ ?_ ?_ <;> blk_simp [win_idx t] <;> rfl

/-- The kernel runs, ends with `result` in its result array, and leaves its arguments as they were. -/
theorem run_result (ρ : Dev nD → PrngReg) :
    θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_result m c), (h c).2⟩) (run_blocks m ρ)

end Cert.KernelIdeal.Value

end
-- ==== Proof.Precondition.lean ====
/-
  The precondition `scaling_real`, read: the printed predicate is one bit, the `and` and `or` of bits that each say something
  of every element of an array. From its being 1 follows what the sums of `RowSum` need (`RowSum.Entry.Scaled`).
-/
module

public import proofs.«01_k».proof.Proof.RowSum
public import proofs.«01_k».proof.Proof.Gen.Pre_scaling_real
public import Idealize.ShloMosaic.Lib.ReduceAll

@[expose] public section

set_option maxRecDepth 16384

noncomputable section

namespace Cert.Pre_scaling_real.Read

open Cert.Pre_scaling_real Cert.Pre_scaling_real.Gen Cert.RowSum Idealize.ShloMosaic

/-- The result's shape has one index. -/
theorem subsingleton_S_ : Subsingleton S_.Idx := ⟨fun a b => funext fun k => k.elim0⟩

/-- The bit pattern of `inf` denotes `⊤`. -/
theorem ofBits_inf : Ideal.ofBits .f32 0x7F800000#32 = (⊤ : EReal) := by
  simp [Ideal.ofBits, Ideal.ieee]

/-- A truth value whose bit is 1 is true. -/
theorem ofBool_eq_one : ∀ {b : Bool}, BitVec.ofBool b = 1#1 → b = true := by decide

/-- Where `|a| < inf` holds as a bit, `a` is a real number. -/
theorem isReal_of_bit {a : EReal} (h : FloatOps.cmpf (F := Ideal) (φ := .f32) .olt (FloatOps.hostAbsf (F := Ideal) (φ := .f32) a) (Ideal.ofBits .f32 0x7F800000#32) = 1#1) :
    IsReal a := by
  rw [ofBits_inf] at h
  refine isReal_of_abs_lt_top ?_
  have hcmp : BitVec.ofBool (decide (max a (-a) < ⊤)) = 1#1 := h
  exact of_decide_eq_true (ofBool_eq_one hcmp)

/-- Where `a ≥ 0` holds as a bit, `a` is not negative. -/
theorem nonneg_of_bit {a : EReal} (h : FloatOps.cmpf (F := Ideal) (φ := .f32) .oge a (Ideal.ofBits .f32 0x00000000#32) = 1#1) :
    0 ≤ a := by
  rw [Ideal.ofBits_zero_f32] at h
  have hcmp : BitVec.ofBool (decide (0 ≤ a)) = 1#1 := h
  exact of_decide_eq_true (ofBool_eq_one hcmp)

/-- `jnp.all(jnp.abs(x) < jnp.inf)` over an array of any shape: every element is a real number. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : IsReal (x i) :=
  haveI := subsingleton_S_
  isReal_of_bit (Host.reduce_andi_all _ _ hr hu j h i)

/-- `jnp.all(x >= 0)`: no element is negative. -/
theorem all_nonneg {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .oge x (broadcastInDim s ![] hb (constant S_ .f32 0x00000000#32)))
      (constantI S_ 1 1#1) hr hu j = 1#1) (i : s.Idx) : 0 ≤ x i :=
  haveI := subsingleton_S_
  nonneg_of_bit (Host.reduce_andi_all _ _ hr hu j h i)

/-- An `or` of two bits that is 1 has a 1. -/
theorem ori_eq_one {a b : BitVec 1} (h : IntOp.ori a b = 1#1) : a = 1#1 ∨ b = 1#1 := by
  rcases bit_cases a with rfl | rfl
  · rcases bit_cases b with rfl | rfl
    · exact absurd h (by decide)
    · exact .inr rfl
  · exact .inl rfl

/-- The precondition gives every entry what `RowSum` asks of it. -/
theorem scaled (x : FVec Ideal S4096x2048 .f32) (A : FVec Ideal S8x64x2048 .f32) (B : FVec Ideal S8x2048x64 .f32)
    (c : FVec Ideal S8 .f32) (e : IVec S8 32) (w : IVec S4096 32) (h : fn (F := Ideal) x A B c e w = fun _ => 1#1)
    (t : Fin 4096) (d : Fin 2048) : (Entry.at x A B c e w t d).Scaled := by
  have hbit : fn (F := Ideal) x A B c e w ix0 = 1#1 := congrFun h ix0
  unfold fn fn_part1 at hbit
  dsimp only at hbit
  obtain ⟨hc, hor⟩ := IntOp.andi_eq_one.1 hbit
  refine ⟨fun s => all_real c _ _ _ _ hc _, ?_⟩
  rcases ori_eq_one hor with hpos | hreal
  · exact .inl fun s => all_nonneg c _ _ _ _ hpos _
  · obtain ⟨hxA, hB⟩ := IntOp.andi_eq_one.1 hreal
    obtain ⟨hx, hA⟩ := IntOp.andi_eq_one.1 hxA
    exact .inr ⟨fun i => all_real x _ _ _ _ hx _, fun s r i => all_real A _ _ _ _ hA _,
      fun s r => all_real B _ _ _ _ hB _⟩

end Cert.Pre_scaling_real.Read

end
-- ==== Proof.Reference.lean ====
/-
  The reference's result, read at an index: entry `(t, d)` is the eight slots' terms added up (`RowSum.Entry.slotSum`).
-/
module

public import proofs.«01_k».proof.Proof.RowSum
public import proofs.«01_k».proof.Proof.Gen.ReferenceIdeal.Run
public import Idealize.ShloMosaic.Lib.Tactic.CleanTypes

@[expose] public section

set_option maxRecDepth 16384

noncomputable section

namespace Cert.ReferenceIdeal.Value

open Cert.ReferenceIdeal Cert.ReferenceIdeal.Gen Cert.RowSum
open Idealize.ShloMosaic Idealize.ShloMosaic.TcCoe Idealize.SL.Sem

variable (m : (ℓ : Loc nD τ sig) → Buf (Elt Ideal) ℓ)

/-- The entry at `(t, d)` of the arguments in the reference's memory. -/
def entry (c : Dev nD) (t : Fin 4096) (d : Fin 2048) : Entry :=
  Entry.at (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) t d

/-- The result array: each entry the sum of its eight slots. -/
def result (c : Dev nD) : S4096x2048.Idx → EReal := fun i => (entry m c (i 0) (i 1)).slotSum

/-- The reference runs, ends with `result` in its result array, and leaves its arguments as they were. -/
theorem run_result (ρ : Dev nD → PrngReg) :
    θ_run defs (onTc (τ := τ) (main (F := Ideal))) ⟨m, fun _ => 0, ρ⟩ fun r => ∀ c : Dev nD,
      r.2.mem ((c.tc : Thread nD τ).loc main_v217) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (run (F := Ideal) m ρ)
  unfold res_main_v190 res_main_v82 res_main_v0
  clean_types
  funext j
  idx_vars j
  unfold result Entry.slotSum
  rw [Fin.sum_univ_eight]
  pointwise [Entry.slot, Entry.routed, Entry.ranked, entry, Entry.at]

end Cert.ReferenceIdeal.Value

end
-- ==== Proof.lean ====
/-
  The proof of `Cert.Claim`. The frame claims are the generated frames (the kernel's) and the reference's generated run. The
  algebraic claim puts the kernel's result (Proof/Kernel.lean) beside the reference's (Proof/Reference.lean): at every index
  the two are the two sums of Proof/RowSum.lean, equal under the precondition as Proof/Precondition.lean reads it.
-/
module

public import proofs.«01_k».proof.Defs
public import proofs.«01_k».proof.Proof.Gen.Kernel.Frame
public import proofs.«01_k».proof.Proof.Kernel
public import proofs.«01_k».proof.Proof.Precondition
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: it runs, leaves its arguments as they were, and every counter is zero, since it declares none. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments that meet the precondition, the reference's result is the kernel's, entry by entry. -/
theorem algebraic : algebraic_KernelIdeal_ReferenceIdeal_pre_scaling_real := by
  intro m ρ m' ρ' hpre hagree
  refine ⟨_, Cert.KernelIdeal.Value.run_result m ρ, ?_⟩
  refine (θ_run Cert.ReferenceIdeal.defs _ _).mono (fun _ h c => ⟨(h c).1.trans ?_, (h c).2⟩)
    (Cert.ReferenceIdeal.Value.run_result m' ρ')
  obtain ⟨h0, h1, h2, h3, h4, h5⟩ := hagree c
  funext i
  have hentry : Cert.ReferenceIdeal.Value.entry m' c (i 0) (i 1) = Cert.KernelIdeal.Value.entry m c (i 0) (i 1) := by
    unfold Cert.ReferenceIdeal.Value.entry
    rw [h0, h1, h2, h3, h4, h5]
    rfl
  exact (congrArg Cert.RowSum.Entry.slotSum hentry).trans
    (Cert.RowSum.Entry.flatSum_eq _ (Cert.Pre_scaling_real.Read.scaled _ _ _ _ _ _ (hpre c) (i 0) (i 1))).symm

/-- The claim. -/
theorem claim : Cert.Claim := ⟨Cert.Kernel.Gen.facts, Cert.KernelIdeal.Gen.facts, Cert.ReferenceIdeal.Gen.facts, Cert.Pre_scaling_real.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal), algebraic⟩

end Cert.Proof

end
